-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v21) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ bitexact_Kernel_Reference (hKernel := hKernel) (hReference := hReference)
    ∧ preserves_Kernel_KernelIdeal
    ∧ algebraic_KernelIdeal_ReferenceIdeal (hKernelIdeal := hKernelIdeal) (hReferenceIdeal := hReferenceIdeal)
-- ==== Kernel.lean ====
abbrev S4096x4096x1x1 : Shape := ⟨4, ![4096, 4096, 1, 1]⟩
abbrev S4096x4096 : Shape := ⟨2, ![4096, 4096]⟩
abbrev S512x4096 : Shape := ⟨2, ![512, 4096]⟩
abbrev S1x4096 : Shape := ⟨2, ![1, 4096]⟩

abbrev nBuf : Space → Nat
  | .hbm => 4
  | .vmem => 4
  | .smem => 0
  | _ => 0

abbrev bufTy : (tb : Table) → Fin (tcTables nBuf tb) → BufTy
  | .hbm, ⟨0, _⟩ => ⟨S4096x4096x1x1, .f32⟩
  | .hbm, ⟨1, _⟩ => ⟨S4096x4096, .f32⟩
  | .hbm, ⟨2, _⟩ => ⟨S4096x4096, .f32⟩
  | .hbm, ⟨3, _⟩ => ⟨S4096x4096x1x1, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S4096x4096x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4096x4096x1x1 : Shape := ⟨4, ![4096, 4096, 1, 1]⟩
abbrev S8 : Shape := ⟨1, ![8]⟩
abbrev S_ : Shape := ⟨0, ![]⟩
abbrev S8x1 : Shape := ⟨2, ![8, 1]⟩
abbrev S8x4 : Shape := ⟨2, ![8, 4]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096x1x1, .f32⟩
  | .hbm, ⟨1, _⟩ => ⟨S8, .i32⟩
  | .hbm, ⟨2, _⟩ => ⟨S8, .i32⟩
  | .hbm, ⟨3, _⟩ => ⟨S8, .f32⟩
  | .hbm, ⟨4, _⟩ => ⟨S_, .f32⟩
  | .hbm, ⟨5, _⟩ => ⟨S4096x4096x1x1, .f32⟩
  | .hbm, ⟨6, _⟩ => ⟨S_, .i32⟩
  | .hbm, ⟨7, _⟩ => ⟨S8, .i32⟩
  | .hbm, ⟨8, _⟩ => ⟨S8, .i1⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S8x1, .i32⟩
  | .hbm, ⟨28, _⟩ => ⟨S8x1, .i32⟩
  | .hbm, ⟨29, _⟩ => ⟨S8x1, .i32⟩
  | .hbm, ⟨30, _⟩ => ⟨S8x4, .i32⟩
  | .hbm, ⟨31, _⟩ => ⟨S4096x4096x1x1, .f32⟩
  | .hbm, ⟨32, _⟩ => ⟨S4096x4096x1x1, .f32⟩
  | _, _ => ⟨S4096x4096x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_cst_1 : Ref sig .tc := ⟨.hbm, 4, rfl⟩
abbrev main_v0 : Ref sig .tc := ⟨.hbm, 5, rfl⟩
abbrev main_c_2 : Ref sig .tc := ⟨.hbm, 6, rfl⟩
abbrev main_v1 : Ref sig .tc := ⟨.hbm, 7, rfl⟩
abbrev main_v2 : Ref sig .tc := ⟨.hbm, 8, rfl⟩
abbrev main_c_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_4 : Ref sig .tc := ⟨.hbm, 13, rfl⟩
abbrev main_v6 : Ref sig .tc := ⟨.hbm, 14, rfl⟩
abbrev main_v7 : Ref sig .tc := ⟨.hbm, 15, rfl⟩
abbrev main_c_5 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_6 : Ref sig .tc := ⟨.hbm, 20, rfl⟩
abbrev main_v11 : Ref sig .tc := ⟨.hbm, 21, rfl⟩
abbrev main_c_7 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Proof.Patch.lean ====
/- The mathematics that both programs share, at any float values `F`: the table of summands (`word`), the row that the
   kernel's conditional stores (`patchRow`), and what a buffer reads after such a row has been stored into it
   (`read_patchRow`). Nothing here mentions a printed program. -/
module

public import Idealize.ShloMosaic.Lib.WritesUnit
public import Idealize.ShloMosaic.Lib.Pipeline.ValueKit
public import Idealize.ShloMosaic.Lib.Pointwise
public import Idealize.ShloMosaic.Lib.Routing.OpsSet

@[expose] public section

set_option maxRecDepth 16384

noncomputable section

namespace Cert.Patch

open Idealize.ShloMosaic

variable {F : FTy → Type} [FloatOps F]

/-- One block of 512 whole rows of the array. -/
abbrev Blk : Shape := ⟨2, ![512, 4096]⟩
/-- One whole row. -/
abbrev Row : Shape := ⟨2, ![1, 4096]⟩

/-- The float word of the number 1. -/
abbrev one : BitVec 32 := 0x3F800000#32

/-- The summand at row `r`, column `c`, as a float word: the eight replaced entries of the matrix of ones, else 1. -/
def word (r c : ℕ) : BitVec 32 :=
  if r = 1 ∧ c = 0 then 0x3F000000#32
  else if r = 2 ∧ c = 3 then 0x3FC00000#32
  else if r = 20 ∧ c = 10 then 0x3E800000#32
  else if r = 200 ∧ c = 100 then 0x40000000#32
  else if r = 7 ∧ c = 7 then 0x3DCCCCCD#32
  else if r = 1000 ∧ c = 500 then 0x3F666666#32
  else if r = 4095 ∧ c = 2048 then 0x3F99999A#32
  else if r = 0 ∧ c = 4095 then 0x3E99999A#32
  else one

/-- The row that a conditional of the kernel stores: the loaded row plus `w` in column `k`, plus 1 in the others. -/
def patchRow (h : Row.Iotas .tc 32 [1]) (k w : BitVec 32) (x : Vec F Row .f32) : FVec F Row .f32 :=
  select (cmpi .eq (iota .tc Row 32 [1] h) (broadcast Row k))
    (addf x (broadcast Row (Scalar.ofBits .f32 w))) (addf x (broadcast Row (Scalar.ofBits .f32 one)))

/-- That row at an index: one addition, whose second operand depends on the column. -/
theorem patchRow_apply (h : Row.Iotas .tc 32 [1]) (k : ℕ) (hk : k < 4096) (w : BitVec 32) (x : Vec F Row .f32) (j : Row.Idx) :
    patchRow h (BitVec.ofNat 32 k) w x j
      = FloatOps.addf (x j) (FloatOps.ofBits .f32 (if (j (1 : Fin 2)).val = k then w else one)) := by
  idx_vars j
  pointwise [patchRow]
  by_cases e : j1.val = k
  · simp [e, Scalar.select, IntOp.cmpi]
  · have hw : BitVec.ofNat 32 j1.val ≠ BitVec.ofNat 32 k := fun hc => e (by
      have := congrArg BitVec.toNat hc
      simp only [BitVec.toNat_ofNat] at this
      have := j1.isLt
      omega)
    have hb : (BitVec.ofNat 32 j1.val == BitVec.ofNat 32 k) = false := beq_false_of_ne hw
    simp [e, hb, Scalar.select, IntOp.cmpi]

variable {sig : RefSig} {κ : Kind} {sp : Space}

/-- A BUFFER AFTER A ROW STORE. The newest store put `patchRow` of row `j` of `x` at row `j`: row `j` reads `x` plus the
    row's summands, every other row what the older stores left. -/
theorem read_patchRow (v : View sig κ sp Blk .f32) (f : v.ty.Contents (Elt F)) (a : Memref sig .tc .vmem Blk .f32)
    (ha : a.IsWhole) (x : Vec F Blk .f32) (h : Row.Iotas .tc 32 [1]) (j k : ℕ) (hk : k < 4096) (w : BitVec 32)
    (inb : ∀ b : Fin 2, (![j, 0] : Fin 2 → ℕ) b + (![1, 4096] : Fin 2 → ℕ) b ≤ Blk.size b)
    (L : List (View.Piece (Elt F) Blk .f32)) (y : Blk.Idx) :
    v.read (Elt F) (v.writes (Elt F) f (⟨Rect.unit (s := Blk) ![j, 0] ![1, 4096] inb,
        patchRow h (BitVec.ofNat 32 k) w
          (a.view.readAt (Elt F) (Rect.unit (s := Blk) ![j, 0] ![1, 4096] inb).toLoadRect (ha.unread x))⟩ :: L)) y
      = if (y (0 : Fin 2)).val = j then
          FloatOps.addf (x y) (FloatOps.ofBits .f32 (if (y (1 : Fin 2)).val = k then w else one))
        else v.read (Elt F) (v.writes (Elt F) f L) y := by
  by_cases hj : (y (0 : Fin 2)).val = j
  · rw [if_pos hj]
    let z : (Rect.unit (s := Blk) ![j, 0] ![1, 4096] inb).shape.Idx := ix2 (0 : Fin 1) (⟨(y (1 : Fin 2)).val, (y (1 : Fin 2)).isLt⟩ : Fin 4096)
    rw [View.read_writes_cons_rows_of_mem (o := j) v f inb _ L y z rfl hj rfl]
    refine (patchRow_apply h k hk w _ z).trans ?_
    rw [View.readAt_apply, ha.read_unread]
    have hz : (Rect.unit (s := Blk) ![j, 0] ![1, 4096] inb).idx z = y := by
      funext b
      apply Fin.ext
      refine (Rect.idx_unit_val _ _ _ _ _).trans ?_
      match b with
      | ⟨0, _⟩ => exact hj.symm
      | ⟨1, _⟩ => exact Nat.zero_add _
    rw [hz]
    rfl
  · rw [if_neg hj]
    exact View.read_writes_cons_rows_of_not_mem v f inb _ L y (W := 1) rfl rfl (by omega)

/-- The whole block plus 1: the kernel's first store. -/
def ones (x : Vec F Blk .f32) : FVec F Blk .f32 := addf x (broadcast Blk (Scalar.ofBits .f32 one))

/-- The summand at row `r`, column `c`, once row `j` is stored with `w` in column `k` over summands `w'`. -/
def over (j k : ℕ) (w : BitVec 32) (r c : ℕ) (w' : BitVec 32) : BitVec 32 :=
  if r = j then if c = k then w else one else w'

/-- One row store, on a buffer that reads `x` plus a summand at `y`: it still does, the summand changed by `over`. -/
theorem read_row {v : View sig κ sp Blk .f32} {f : v.ty.Contents (Elt F)} {a : Memref sig .tc .vmem Blk .f32}
    {ha : a.IsWhole} {x : Vec F Blk .f32} {h : Row.Iotas .tc 32 [1]} {j k : ℕ} (hk : k < 4096) {w : BitVec 32}
    {inb : ∀ b : Fin 2, (![j, 0] : Fin 2 → ℕ) b + (![1, 4096] : Fin 2 → ℕ) b ≤ Blk.size b}
    {L : List (View.Piece (Elt F) Blk .f32)} {y : Blk.Idx} {w' : BitVec 32}
    (hL : v.read (Elt F) (v.writes (Elt F) f L) y = FloatOps.addf (x y) (FloatOps.ofBits .f32 w')) :
    v.read (Elt F) (v.writes (Elt F) f (⟨Rect.unit (s := Blk) ![j, 0] ![1, 4096] inb,
        patchRow h (BitVec.ofNat 32 k) w
          (a.view.readAt (Elt F) (Rect.unit (s := Blk) ![j, 0] ![1, 4096] inb).toLoadRect (ha.unread x))⟩ :: L)) y
      = FloatOps.addf (x y) (FloatOps.ofBits .f32 (over j k w (y (0 : Fin 2)).val (y (1 : Fin 2)).val w')) := by
  rw [read_patchRow v f a ha x h j k hk w inb L y, hL]
  unfold over
  split <;> rfl

/-- The first store alone: the buffer reads `x` plus 1. -/
theorem read_ones {v : View sig κ sp Blk .f32} {f : v.ty.Contents (Elt F)} {a : Memref sig .tc .vmem Blk .f32}
    {ha : a.IsWhole} {x : Vec F Blk .f32}
    {inb : ∀ b : Fin 2, (![0, 0] : Fin 2 → ℕ) b + (![512, 4096] : Fin 2 → ℕ) b ≤ Blk.size b}
    {L : List (View.Piece (Elt F) Blk .f32)} {y : Blk.Idx} :
    v.read (Elt F) (v.writes (Elt F) f (⟨Rect.unit (s := Blk) ![0, 0] ![512, 4096] inb,
        ones (a.view.readAt (Elt F) (Rect.unit (s := Blk) ![0, 0] ![512, 4096] inb).toLoadRect (ha.unread x))⟩ :: L)) y
      = FloatOps.addf (x y) (FloatOps.ofBits .f32 one) := by
  rw [View.read_writes_cons_rows_of_mem (o := 0) v f inb _ L y y rfl (Nat.zero_add _).symm rfl]
  have hy : (Rect.unit (s := Blk) ![0, 0] ![512, 4096] inb).idx y = y := by
    funext b
    apply Fin.ext
    refine (Rect.idx_unit_val _ _ _ _ _).trans ?_
    match b with
    | ⟨0, _⟩ => exact Nat.zero_add _
    | ⟨1, _⟩ => exact Nat.zero_add _
  refine congrArg (fun z => FloatOps.addf z (FloatOps.ofBits .f32 one)) ?_
  refine (View.readAt_apply _ _ _).trans ?_
  rw [ha.read_unread]
  exact congrArg x hy

/-! ## The summands of each block -/

/-- Block 0 holds six of the eight entries. -/
theorem word_block0 (r c : ℕ) (hr : r < 512) :
    over 0 4095 0x3E99999A#32 r c (over 7 7 0x3DCCCCCD#32 r c (over 200 100 0x40000000#32 r c (over 20 10 0x3E800000#32 r c
      (over 2 3 0x3FC00000#32 r c (over 1 0 0x3F000000#32 r c one))))) = word r c := by
  have h6 : r ≠ 1000 := by omega
  have h7 : r ≠ 4095 := by omega
  by_cases h0 : r = 0
  · subst h0; simp [over, word]
  by_cases h1 : r = 1
  · subst h1; simp [over, word]
  by_cases h2 : r = 2
  · subst h2; simp [over, word]
  by_cases h3 : r = 20
  · subst h3; simp [over, word]
  by_cases h4 : r = 200
  · subst h4; simp [over, word]
  by_cases h5 : r = 7
  · subst h5; simp [over, word]
  simp [over, word, h0, h1, h2, h3, h4, h5, h6, h7]

/-- Block 1 holds one entry. -/
theorem word_block1 (r c : ℕ) (hr : r < 512) : over 488 500 0x3F666666#32 r c one = word (512 + r) c := by
  unfold over word
  split_ifs <;> first | rfl | omega

/-- Block 7 holds one entry. -/
theorem word_block7 (r c : ℕ) (hr : r < 512) : over 511 2048 0x3F99999A#32 r c one = word (3584 + r) c := by
  unfold over word
  split_ifs <;> first | rfl | omega

/-- The other blocks hold none. -/
theorem word_inner (r c : ℕ) (h0 : 1024 ≤ r) (h1 : r < 3584) : word r c = one := by
  unfold word
  split_ifs <;> first | rfl | omega

/-! ## The scatter of the reference -/

/-- The whole array, of rank 4. -/
abbrev Arr : Shape := ⟨4, ![4096, 4096, 1, 1]⟩
/-- THE RESULT of both programs as a function of the argument `X`: `X` plus the summand of each entry. -/
def result (X : Vec F Arr .f32) : Vec F Arr .f32 :=
  fun i => FloatOps.addf (X i) (FloatOps.ofBits .f32 (word (i (0 : Fin 4)).val (i (1 : Fin 4)).val))

/-- A table of eight. -/
abbrev Eight : Shape := ⟨1, ![8]⟩

/-- The row, the column and the summand of each of the eight replaced entries, in the reference's order. -/
def rows : Fin 8 → ℕ := ![1, 2, 20, 200, 7, 1000, 4095, 0]
/-- See `rows`. -/
def cols : Fin 8 → ℕ := ![0, 3, 10, 100, 7, 500, 2048, 4095]

/-- The eight entries are pairwise different. -/
theorem cells_inj : ∀ e e' : Fin 8, rows e = rows e' → cols e = cols e' → e = e' := by decide +kernel

/-- At every entry other than the eight, `word` is 1. -/
theorem word_of_ne (r c : ℕ) (h : ∀ e : Fin 8, ¬(r = rows e ∧ c = cols e)) : word r c = one := by
  exact (if_neg (h 0)).trans ((if_neg (h 1)).trans ((if_neg (h 2)).trans ((if_neg (h 3)).trans ((if_neg (h 4)).trans
    ((if_neg (h 5)).trans ((if_neg (h 6)).trans (if_neg (h 7))))))))

/-- THE REFERENCE'S SCATTER, read at an entry. Let update `e` land at row `rows e`, column `cols e`, and let it write
    the float of `word` there; let the operand hold ones. The result holds the float of `word` at every entry. -/
theorem scatter_word {si : Shape} {w : ℕ} (d : ScatterDims Arr si Eight) (idx : IVec si w) (x0 : Arr.Idx → F .f32)
    (upd : Eight.Idx → F .f32)
    (hl : ∀ e : Fin 8, ((d.resultIdx? (ix1 e) idx).map fun i => ((i (0 : Fin 4)).val, (i (1 : Fin 4)).val)) = some (rows e, cols e))
    (h0 : ∀ i, x0 i = FloatOps.ofBits .f32 one)
    (hu : ∀ e : Fin 8, upd (ix1 e) = FloatOps.ofBits .f32 (word (rows e) (cols e))) (i : Arr.Idx) :
    Host.scatter d (fun _ b => b) x0 idx upd i
      = FloatOps.ofBits .f32 (word (i (0 : Fin 4)).val (i (1 : Fin 4)).val) := by
  have lands : ∀ e : Fin 8, d.resultIdx? (ix1 e) idx = some i ↔ (i (0 : Fin 4)).val = rows e ∧ (i (1 : Fin 4)).val = cols e := by
    intro e
    have h := hl e
    generalize d.resultIdx? (ix1 e) idx = o at h ⊢
    cases o with
    | none => cases h
    | some k =>
      have hk := Prod.ext_iff.1 (Option.some.inj h)
      constructor
      · intro q
        cases q
        exact hk
      · intro q
        refine congrArg some (funext fun b => Fin.ext ?_)
        match b with
        | ⟨0, _⟩ => exact hk.1.trans q.1.symm
        | ⟨1, _⟩ => exact hk.2.trans q.2.symm
        | ⟨2, _⟩ => exact congrArg Fin.val (Subsingleton.elim (α := Fin 1) _ _)
        | ⟨3, _⟩ => exact congrArg Fin.val (Subsingleton.elim (α := Fin 1) _ _)
  by_cases h : ∃ e : Fin 8, (i (0 : Fin 4)).val = rows e ∧ (i (1 : Fin 4)).val = cols e
  · obtain ⟨e, he⟩ := h
    refine Routing.scatter_set_hit d x0 idx upd i _ (fun k hk => ?_) (ix1 e) ((lands e).2 he)
    obtain ⟨e', rfl⟩ : ∃ e' : Fin 8, k = ix1 e' := ⟨k 0, ValueIdx.eq_ix1 k⟩
    have he' := (lands e').1 hk
    obtain rfl := cells_inj e' e (he'.1.symm.trans he.1) (he'.2.symm.trans he.2)
    rw [hu, he.1, he.2]
  · have hn : ∀ e : Fin 8, ¬((i (0 : Fin 4)).val = rows e ∧ (i (1 : Fin 4)).val = cols e) := fun e he => h ⟨e, he⟩
    rw [word_of_ne _ _ hn, ← h0 i]
    refine Routing.scatter_set_miss d x0 idx upd i fun k hk => ?_
    obtain ⟨e', rfl⟩ : ∃ e' : Fin 8, k = ix1 e' := ⟨k 0, ValueIdx.eq_ix1 k⟩
    exact hn e' ((lands e').1 hk)

end Cert.Patch

end
-- ==== Proof.KernelIdealValue.lean ====
/- The kernel's value in its ideal reading, as in KernelValue.lean: its blocks, the array that its grid leaves, and the run of the whole program. -/
module

public import proofs.«01_k».proof.Proof.Gen.KernelIdeal.Frame
public import proofs.«01_k».proof.Proof.Patch

@[expose] public section

set_option maxRecDepth 16384

noncomputable section

namespace Cert.KernelIdeal.Value

open Cert.KernelIdeal Cert.KernelIdeal.Gen
open Idealize.ShloMosaic Idealize.ShloMosaic.TcCoe Idealize.SL.Sem

variable {F : FTy → Type} [FloatOps F]

/-! ## The stored rows -/

/-- Payload 1 adds to a row, in column 4095 its own word and 1 in the others. -/
theorem pay1_eq (x : Vec F S1x4096 .f32) :
    k0_pay1 kernelRun0_A.sl.v5 x = Patch.patchRow iota_S1x4096_d1_w32 4095#32 0x3E99999A#32 x := by
  unfold k0_pay1 kernelRun0_A.sl.v5; simp only [shapeCast_self]; rfl
/-- Payload 3 adds to a row, in column 0 its own word and 1 in the others. -/
theorem pay3_eq (x : Vec F S1x4096 .f32) :
    k0_pay3 x = Patch.patchRow iota_S1x4096_d1_w32 0#32 0x3F000000#32 x := by
  unfold k0_pay3; simp only [shapeCast_self]; rfl
/-- Payload 4 adds to a row, in column 3 its own word and 1 in the others. -/
theorem pay4_eq (x : Vec F S1x4096 .f32) :
    k0_pay4 x = Patch.patchRow iota_S1x4096_d1_w32 3#32 0x3FC00000#32 x := by
  unfold k0_pay4; simp only [shapeCast_self]; rfl
/-- Payload 5 adds to a row, in column 10 its own word and 1 in the others. -/
theorem pay5_eq (x : Vec F S1x4096 .f32) :
    k0_pay5 x = Patch.patchRow iota_S1x4096_d1_w32 10#32 0x3E800000#32 x := by
  unfold k0_pay5; simp only [shapeCast_self]; rfl
/-- Payload 6 adds to a row, in column 100 its own word and 1 in the others. -/
theorem pay6_eq (x : Vec F S1x4096 .f32) :
    k0_pay6 x = Patch.patchRow iota_S1x4096_d1_w32 100#32 0x40000000#32 x := by
  unfold k0_pay6; simp only [shapeCast_self]; rfl
/-- Payload 7 adds to a row, in column 7 its own word and 1 in the others. -/
theorem pay7_eq (x : Vec F S1x4096 .f32) :
    k0_pay7 x = Patch.patchRow iota_S1x4096_d1_w32 7#32 0x3DCCCCCD#32 x := by
  unfold k0_pay7; simp only [shapeCast_self]; rfl
/-- Payload 8 adds to a row, in column 500 its own word and 1 in the others. -/
theorem pay8_eq (x : Vec F S1x4096 .f32) :
    k0_pay8 x = Patch.patchRow iota_S1x4096_d1_w32 500#32 0x3F666666#32 x := by
  unfold k0_pay8; simp only [shapeCast_self]; rfl
/-- Payload 9 adds to a row, in column 2048 its own word and 1 in the others. -/
theorem pay9_eq (x : Vec F S1x4096 .f32) :
    k0_pay9 x = Patch.patchRow iota_S1x4096_d1_w32 2048#32 0x3F99999A#32 x := by
  unfold k0_pay9; simp only [shapeCast_self]; rfl
/-- Payload 2 adds 1 to the block. -/
theorem pay2_eq (x : Vec F S512x4096 .f32) : k0_pay2 x = Patch.ones x := by
  unfold k0_pay2; simp only [shapeCast_self]; rfl

/-! ## The block that each case leaves -/

/-- The case of block 0: `x0` plus the summand of each entry. -/
theorem out_A (c : Dev nD) (i : grid0.Coords) (arg1 : Memref sig .tc .vmem S512x4096 .f32) (harg1 : arg1.IsWhole)
    (arg2 : Memref sig .tc .vmem S512x4096 .f32) (harg2 : arg2.IsWhole) (hc0 : cond0_0 i) (hc1 : cond0_1 i) (hc2 : cond0_2 i) (hc3 : cond0_3 i) (hc4 : cond0_4 i) (hc5 : ¬cond0_5 i) (hc6 : ¬cond0_6 i) (hc7 : cond0_7 i)
    (x0 : Vec F S512x4096 .f32) (y : S512x4096.Idx) :
    out0_A_1 c i arg1 harg1 arg2 harg2 hc0 hc1 hc2 hc3 hc4 hc5 hc6 hc7 x0 y
      = FloatOps.addf (x0 y) (FloatOps.ofBits .f32 (Patch.word (y (0 : Fin 2)).val (y (1 : Fin 2)).val)) := by
  unfold out0_A_1 kernelRun0_A
  dsimp only
  simp only [pay1_eq, pay7_eq, pay6_eq, pay5_eq, pay4_eq, pay3_eq, pay2_eq]
  have h0 := Patch.read_ones (v := VO0_1) (f := VO0_1.junk) (ha := harg1) (x := x0) (inb := inb_S512x4096_S512x4096_0_0) (L := []) (y := y)
  have h1 := Patch.read_row (ha := harg1) (h := iota_S1x4096_d1_w32) (k := 0) (by decide) (w := 0x3F000000#32) (inb := inb_S512x4096_S1x4096_1_0) h0
  have h2 := Patch.read_row (ha := harg1) (h := iota_S1x4096_d1_w32) (k := 3) (by decide) (w := 0x3FC00000#32) (inb := inb_S512x4096_S1x4096_2_0) h1
  have h3 := Patch.read_row (ha := harg1) (h := iota_S1x4096_d1_w32) (k := 10) (by decide) (w := 0x3E800000#32) (inb := inb_S512x4096_S1x4096_20_0) h2
  have h4 := Patch.read_row (ha := harg1) (h := iota_S1x4096_d1_w32) (k := 100) (by decide) (w := 0x40000000#32) (inb := inb_S512x4096_S1x4096_200_0) h3
  have h5 := Patch.read_row (ha := harg1) (h := iota_S1x4096_d1_w32) (k := 7) (by decide) (w := 0x3DCCCCCD#32) (inb := inb_S512x4096_S1x4096_7_0) h4
  have h6 := Patch.read_row (ha := harg1) (h := iota_S1x4096_d1_w32) (k := 4095) (by decide) (w := 0x3E99999A#32) (inb := inb_S512x4096_S1x4096_0_0) h5
  exact h6.trans (congrArg (fun w => FloatOps.addf (x0 y) (FloatOps.ofBits .f32 w)) (Patch.word_block0 _ _ (y (0 : Fin 2)).isLt))

/-- The case of block 1: `x0` plus the summand of each entry. -/
theorem out_B (c : Dev nD) (i : grid0.Coords) (arg1 : Memref sig .tc .vmem S512x4096 .f32) (harg1 : arg1.IsWhole)
    (arg2 : Memref sig .tc .vmem S512x4096 .f32) (harg2 : arg2.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (x0 : Vec F S512x4096 .f32) (y : S512x4096.Idx) :
    out0_B_1 c i arg1 harg1 arg2 harg2 hc0 hc1 hc2 hc3 hc4 hc5 hc6 hc7 x0 y
      = FloatOps.addf (x0 y) (FloatOps.ofBits .f32 (Patch.word (512 + (y (0 : Fin 2)).val) (y (1 : Fin 2)).val)) := by
  unfold out0_B_1 kernelRun0_B
  dsimp only
  simp only [pay8_eq, pay2_eq]
  have h0 := Patch.read_ones (v := VO0_1) (f := VO0_1.junk) (ha := harg1) (x := x0) (inb := inb_S512x4096_S512x4096_0_0) (L := []) (y := y)
  have h1 := Patch.read_row (ha := harg1) (h := iota_S1x4096_d1_w32) (k := 500) (by decide) (w := 0x3F666666#32) (inb := inb_S512x4096_S1x4096_488_0) h0
  exact h1.trans (congrArg (fun w => FloatOps.addf (x0 y) (FloatOps.ofBits .f32 w)) (Patch.word_block1 _ _ (y (0 : Fin 2)).isLt))

/-- The case of block 7: `x0` plus the summand of each entry. -/
theorem out_D (c : Dev nD) (i : grid0.Coords) (arg1 : Memref sig .tc .vmem S512x4096 .f32) (harg1 : arg1.IsWhole)
    (arg2 : Memref sig .tc .vmem S512x4096 .f32) (harg2 : arg2.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i)
    (x0 : Vec F S512x4096 .f32) (y : S512x4096.Idx) :
    out0_D_1 c i arg1 harg1 arg2 harg2 hc0 hc1 hc2 hc3 hc4 hc5 hc6 hc7 x0 y
      = FloatOps.addf (x0 y) (FloatOps.ofBits .f32 (Patch.word (3584 + (y (0 : Fin 2)).val) (y (1 : Fin 2)).val)) := by
  unfold out0_D_1 kernelRun0_D
  dsimp only
  simp only [pay9_eq, pay2_eq]
  have h0 := Patch.read_ones (v := VO0_1) (f := VO0_1.junk) (ha := harg1) (x := x0) (inb := inb_S512x4096_S512x4096_0_0) (L := []) (y := y)
  have h1 := Patch.read_row (ha := harg1) (h := iota_S1x4096_d1_w32) (k := 2048) (by decide) (w := 0x3F99999A#32) (inb := inb_S512x4096_S1x4096_511_0) h0
  exact h1.trans (congrArg (fun w => FloatOps.addf (x0 y) (FloatOps.ofBits .f32 w)) (Patch.word_block7 _ _ (y (0 : Fin 2)).isLt))

/-- The case of a block without entries: `x0` plus the summand of each entry. -/
theorem out_C (c : Dev nD) (i : grid0.Coords) (arg1 : Memref sig .tc .vmem S512x4096 .f32) (harg1 : arg1.IsWhole)
    (arg2 : Memref sig .tc .vmem S512x4096 .f32) (harg2 : arg2.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    (x0 : Vec F S512x4096 .f32) (y : S512x4096.Idx) :
    out0_C_1 c i arg1 harg1 arg2 harg2 hc0 hc1 hc2 hc3 hc4 hc5 hc6 hc7 x0 y
      = FloatOps.addf (x0 y) (FloatOps.ofBits .f32 Patch.one) := by
  unfold out0_C_1 kernelRun0_C
  dsimp only
  simp only [pay2_eq]
  have h0 := Patch.read_ones (v := VO0_1) (f := VO0_1.junk) (ha := harg1) (x := x0) (inb := inb_S512x4096_S512x4096_0_0) (L := []) (y := y)
  exact h0

/-! ## The array that the grid leaves -/

variable (m : (ℓ : Loc nD τ sig) → Buf (Elt F) ℓ)

/-- What point `t` leaves in the output's block: the input's block plus the summand of each entry, at its row in the array. -/
theorem outs_apply (c : Dev nD) (t : Fin cfg0.N) (y : S512x4096.Idx) :
    outsAt0 m c t.val t.isLt y = FloatOps.addf ((iblk m c 0 t : Vec F S512x4096 .f32) y)
      (FloatOps.ofBits .f32 (Patch.word (512 * t.val + (y (0 : Fin 2)).val) (y (1 : Fin 2)).val)) := by
  have ht : t.val < 8 := Nat.lt_of_lt_of_eq t.isLt N_0
  have hy : (y (0 : Fin 2)).val < 512 := (y (0 : Fin 2)).isLt
  by_cases h0 : t.val % 8 = 0
  · rw [outsAt0_A m c t h0 h0 h0 h0 h0 (by omega) (by omega) h0, out_A, show t.val = 0 by omega, Nat.mul_zero, Nat.zero_add]
  by_cases h1 : t.val % 8 = 1
  · rw [outsAt0_B m c t h0 h0 h0 h0 h0 h1 (by omega) h0, out_B, show t.val = 1 by omega]
  by_cases h7 : t.val % 8 = 7
  · rw [outsAt0_D m c t h0 h0 h0 h0 h0 h1 h7 h0, out_D, show t.val = 7 by omega]
  · rw [outsAt0_C m c t h0 h0 h0 h0 h0 h1 h7 h0, out_C, Patch.word_inner _ _ (by omega) (by omega)]

/-- Both windows step down the rows, one block per point. -/
theorem idx_val : ∀ t : Fin cfg0.N, win0_0.index t = ![t.val, 0] ∧ win0_1.index t = ![t.val, 0] :=
  (by decide +kernel : ∀ t : Fin grid0.N, _)

/-- The result array after the whole grid: the array that the region reads, plus the summand of each entry. -/
theorem final (c : Dev nD) : (dats m 0 c).arrAt 1 cfg0.N
    = fun i : S4096x4096.Idx => FloatOps.addf ((V m c main_v0 : Vec F S4096x4096 .f32) i)
        (FloatOps.ofBits .f32 (Patch.word (i (0 : Fin 2)).val (i (1 : Fin 2)).val)) := by
  refine (dats m 0 c).arrAt_eq_of_covers 1 _ (by decide +kernel) fun t hf y => ?_
  blk_simp
  rw [after0_1]
  refine (outs_apply m c t y).trans ?_
  blk_simp [iblk, idx_val t]
  have e : (win0_0.blk t).view.emb y = (win0_1.blk t).view.emb y := by blk_ext [idx_val t]
  rw [Nat.mul_comm 512]
  exact congrArg (fun z => FloatOps.addf (V m c main_v0 z) _) e

/-- The region reads the argument, reshaped to two axes. -/
theorem V_main_v0 (c : Dev nD) : V m c main_v0
    = shapeCast S4096x4096 (m ((c : Thread nD τ).loc main_arg0) : Vec F S4096x4096x1x1 .f32) shapeCasts_S4096x4096x1x1_S4096x4096 := by
  unfold V V0
  simp only [hostOps0, List.flatten_cons, List.flatten_nil, List.append_nil]
  after_results
  rfl

/-- The two reshapes around the region undo each other: entry `(r, c, 0, 0)` of the result is made from that entry of `X`. -/
theorem reshaped (X : Vec F S4096x4096x1x1 .f32) :
    shapeCast S4096x4096x1x1 (fun i : S4096x4096.Idx => FloatOps.addf
        (shapeCast S4096x4096 X shapeCasts_S4096x4096x1x1_S4096x4096 i)
        (FloatOps.ofBits .f32 (Patch.word (i (0 : Fin 2)).val (i (1 : Fin 2)).val))) shapeCasts_S4096x4096_S4096x4096x1x1
      = Patch.result X := by
  funext i
  idx_vars i
  pointwise [Patch.result]
  rw [Subsingleton.elim i2 0, Subsingleton.elim i3 0]

/-- The line after the region leaves `Patch.result` of the argument in the result buffer. -/
theorem tail_result (c : Dev nD) : Pipeline.afterTail₀ cfgs (dats m) 0 (V0 m) [hostOps1] c main_v2
    = Patch.result (m ((c : Thread nD τ).loc main_arg0)) := by
  unfold Pipeline.afterTail₀
  simp only [hostOps1, List.flatten_cons, List.flatten_nil, List.append_nil]
  after_results
  have hw : Pipeline.withArrays (cfgs 0).spec c (V0 m c) (fun w => (dats m 0 c).arrAt w (cfgs 0).N) (Proc.devRef .tc main_v1)
      = _ := (Pipeline.withArrays_arr spec0 (by decide +kernel) c (V0 m c) _ 1).trans (final m c)
  rw [hw, V_main_v0]
  exact reshaped _

variable (ρ : Dev nD → PrngReg)

/-- THE KERNEL: from any memory with zero counters every weakly fair execution ends with the result at `Patch.result` of
    the argument, the argument unchanged. -/
theorem run_word : θ_run defs (onTc (τ := τ) (main (F := F))) ⟨m, fun _ => 0, ρ⟩ fun r => ∀ c : Dev nD,
      r.2.mem ((c.tc : Thread nD τ).loc main_v2) = Patch.result (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (tail_result m c),
      ((h c).2 main_arg0 (Pipeline.mem_restRefs_of main_arg0 (by decide) (by decide))).trans (W_main_arg0 m (dats m) c)⟩)
    (run_main m ρ)

end Cert.KernelIdeal.Value

end
-- ==== Proof.ReferenceIdealValue.lean ====
/- The reference program's run in its ideal reading, as in ReferenceValue.lean: `Cert.ReferenceIdeal.Value.run` with its composed term read at an entry. -/
module

public import proofs.«01_k».proof.Proof.Gen.ReferenceIdeal.Run
public import proofs.«01_k».proof.Proof.Patch

@[expose] public section

set_option maxRecDepth 16384

noncomputable section

namespace Cert.ReferenceIdeal.Value

open Cert.ReferenceIdeal Cert.ReferenceIdeal.Gen Idealize.ShloMosaic Idealize.ShloMosaic.TcCoe Idealize.SL.Sem

variable {F : FTy → Type} [FloatOps F]

/-- A table of eight words, negative ones counted from the end of an axis of 4096, as a column. -/
def wrapped (l : S8.Idx → BitVec 32) : IVec S8x1 32 :=
  broadcastInDim S8x1 ![0] bcast_S8_S8x1_0
    (select (cmpi .slt l (broadcastInDim S8 ![] bcast_S_S8 (constantI S_ 32 0#32)))
      (addi l (broadcastInDim S8 ![] bcast_S_S8 (constantI S_ 32 4096#32))) l)

/-- A column of eight zeros. -/
def zeroCol : IVec S8x1 32 := broadcastInDim S8x1 ![0] bcast_S8_S8x1_0 (id (broadcastInDim S8 ![] bcast_S_S8 (constantI S_ 32 0#32)))

/-- The scatter's index tensor: one row of four words per update. -/
def starts : IVec S8x4 32 :=
  concatenate S8x4 1 [⟨S8x1, wrapped fun i => lit1 (S8.rowMajor i)⟩, ⟨S8x1, wrapped fun i => lit0 (S8.rowMajor i)⟩,
    ⟨S8x1, zeroCol⟩, ⟨S8x1, zeroCol⟩] concatenates_S8x1_S8x1_S8x1_S8x1_S8x4_d1

/-- Update `e` lands in row `rows e`, column `cols e`. -/
theorem starts_land : ∀ e : Fin 8, ((scatter_S4096x4096x1x1_S8x4_S8_n_0123_0123_1.resultIdx? (ix1 e) starts).map
    fun i => ((i (0 : Fin 4)).val, (i (1 : Fin 4)).val)) = some (Patch.rows e, Patch.cols e) := by decide +kernel

/-- The table of updates holds `word` of the entry that each update lands at. -/
theorem updates_word : ∀ e : Fin 8, lit2 (S8.rowMajor (ix1 e)) = Patch.word (Patch.rows e) (Patch.cols e) := by decide +kernel

/-- THE REFERENCE: each entry of the result is one addition, of the entry of `X` and the float of `word` there. -/
theorem run_word (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = Patch.result (m ((c.tc : Thread nD τ).loc main_arg0))
      ∧ r.2.mem ((c.tc : Thread nD τ).loc main_arg0) = m ((c.tc : Thread nD τ).loc main_arg0) :=
  (θ_run defs _ _).mono (fun _ h c => ⟨(h c).1.trans (funext fun i => congrArg (FloatOps.addf _)
    (Patch.scatter_word scatter_S4096x4096x1x1_S8x4_S8_n_0123_0123_1 starts _ _ starts_land (fun _ => rfl)
      (fun e => congrArg (FloatOps.ofBits .f32) (updates_word e)) i)), (h c).2⟩) (run m ρ)

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Reference.Run
public import proofs.«01_k».proof.Proof.Gen.ReferenceIdeal.Run
public import proofs.«01_k».proof.Proof.KernelValue
public import proofs.«01_k».proof.Proof.KernelIdealValue
public import proofs.«01_k».proof.Proof.ReferenceValue
public import proofs.«01_k».proof.Proof.ReferenceIdealValue
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its argument, and has no semaphore whose counter could be left up. -/
theorem frame_reference : Cert.quiescent_Reference := fun m ρ _ =>
  (θ_run Cert.Reference.defs _ _).mono (fun r h => ⟨fun c => (h c).2, sem_eq_zero_of_no_sems (by decide) r.2⟩)
    (Cert.Reference.Value.run_word (F := Bits) m ρ)

/-- The same of its ideal reading. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run_word (F := Ideal) m ρ)

/-- As printed, kernel and reference end with the same words: both at `Patch.result` of arguments that agree. -/
theorem bitexact : Cert.bitexact_Kernel_Reference := fun m ρ m' ρ' _ hag =>
  ⟨fun c => Cert.Patch.result (F := Bits) (m (c.tc.loc Cert.Kernel.main_arg0)), Cert.Kernel.Value.run_word (F := Bits) m ρ,
    (θ_run Cert.Reference.defs _ _).mono (fun _ h c => ⟨(h c).1.trans (congrArg (Cert.Patch.result (F := Bits)) (hag c)), (h c).2⟩)
      (Cert.Reference.Value.run_word (F := Bits) m' ρ')⟩

/-- In the ideal reading, kernel and reference end with the same extended reals. -/
theorem algebraic : Cert.algebraic_KernelIdeal_ReferenceIdeal := fun m ρ m' ρ' _ hag =>
  ⟨fun c => Cert.Patch.result (F := Ideal) (m (c.tc.loc Cert.KernelIdeal.main_arg0)),
    Cert.KernelIdeal.Value.run_word (F := Ideal) m ρ,
    (θ_run Cert.ReferenceIdeal.defs _ _).mono
      (fun _ h c => ⟨(h c).1.trans (congrArg (Cert.Patch.result (F := Ideal)) (hag c)), (h c).2⟩)
      (Cert.ReferenceIdeal.Value.run_word (F := Ideal) m' ρ')⟩

/-- Every claim of this certificate. -/
theorem claim : Cert.Claim :=
  ⟨Cert.Kernel.Gen.facts, Cert.Reference.Gen.facts, Cert.KernelIdeal.Gen.facts, Cert.ReferenceIdeal.Gen.facts,
    fun m ρ _ => Cert.Kernel.Gen.frame m ρ, frame_reference, fun m ρ _ => Cert.KernelIdeal.Gen.frame m ρ,
    frame_referenceIdeal, bitexact, trivial, algebraic⟩

end Cert.Proof

end
